-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_z [hPre_finite_z : Cert.Pre_finite_z.Facts] (m : (ℓ : Loc Cert.KernelIdeal.nD Cert.KernelIdeal.τ Cert.KernelIdeal.sig) → Buf (Elt Ideal) ℓ) : Prop :=
  ∀ c : Dev Cert.KernelIdeal.nD,
    (Cert.Pre_finite_z.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_z [hPre_finite_z : Cert.Pre_finite_z.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_z.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_z [hKernelIdeal : Cert.KernelIdeal.Facts] [hPre_finite_z : Cert.Pre_finite_z.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_z m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_z [hReferenceIdeal : Cert.ReferenceIdeal.Facts] [hPre_finite_z : Cert.Pre_finite_z.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_z m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_z [hKernelIdeal : Cert.KernelIdeal.Facts] [hReferenceIdeal : Cert.ReferenceIdeal.Facts] [hPre_finite_z : Cert.Pre_finite_z.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_z m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_z : Cert.Pre_finite_z.Facts),
    quiescent_Kernel (hKernel := hKernel)
    ∧ quiescent_KernelIdeal (hKernelIdeal := hKernelIdeal)
    ∧ quiescent_KernelIdeal_pre_finite_z (hKernelIdeal := hKernelIdeal) (hPre_finite_z := hPre_finite_z)
    ∧ quiescent_ReferenceIdeal (hReferenceIdeal := hReferenceIdeal)
    ∧ quiescent_ReferenceIdeal_pre_finite_z (hReferenceIdeal := hReferenceIdeal) (hPre_finite_z := hPre_finite_z)
    ∧ preserves_Kernel_KernelIdeal
    ∧ algebraic_KernelIdeal_ReferenceIdeal_pre_finite_z (hKernelIdeal := hKernelIdeal) (hReferenceIdeal := hReferenceIdeal) (hPre_finite_z := hPre_finite_z)
-- ==== Pre_finite_z.lean ====
abbrev S8x256x32x32 : Shape := ⟨4, ![8, 256, 32, 32]⟩
abbrev S1024x256 : Shape := ⟨2, ![1024, 256]⟩
abbrev S_ : Shape := ⟨0, ![]⟩

class Facts : Prop where
  bcast_S_S8x256x32x32 : S_.BroadcastsInDim S8x256x32x32 (![] : Fin 0 → Fin S8x256x32x32.rank)
  reducesTo_S8x256x32x32_S_d0_1_2_3 : S8x256x32x32.ReducesTo [0, 1, 2, 3] S_
  h_S_ : 0 < S_.numel

variable [Facts]

def fn {F : FTy → Type} [FloatOps F] (main_arg0 : FVec F S8x256x32x32 .f32) (main_arg1 : FVec F S1024x256 .f32) : IVec S_ 1 :=
  let main_v0 : FVec F S8x256x32x32 .f32 := Host.absf main_arg0
  let main_cst : FVec F S_ .f32 := constant S_ .f32 0x7F800000#32
  let main_v1 : FVec F S8x256x32x32 .f32 := broadcastInDim S8x256x32x32 ![] bcast_S_S8x256x32x32 main_cst
  let main_v2 : IVec S8x256x32x32 1 := cmpf .olt main_v0 main_v1
  let main_c : IVec S_ 1 := constantI S_ 1 1#1
  let main_v3 : IVec S_ 1 := (fun x v => Host.reduce IntOp.andi x v reducesTo_S8x256x32x32_S_d0_1_2_3 h_S_) main_v2 main_c
  main_v3
-- ==== Kernel.lean ====
abbrev S8x256x32x32 : Shape := ⟨4, ![8, 256, 32, 32]⟩
abbrev S1024x256 : Shape := ⟨2, ![1024, 256]⟩
abbrev S8x256x1024 : Shape := ⟨3, ![8, 256, 1024]⟩
abbrev S8x1x128 : Shape := ⟨3, ![8, 1, 128]⟩
abbrev S1x256x1024 : Shape := ⟨3, ![1, 256, 1024]⟩
abbrev S1x1x128 : Shape := ⟨3, ![1, 1, 128]⟩
abbrev S256x1024 : Shape := ⟨2, ![256, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩
abbrev S1 : Shape := ⟨1, ![1]⟩
abbrev S1x1x1 : Shape := ⟨3, ![1, 1, 1]⟩
abbrev S8x1x1 : Shape := ⟨3, ![8, 1, 1]⟩
abbrev S8 : Shape := ⟨1, ![8]⟩
abbrev S_ : Shape := ⟨0, ![]⟩

abbrev nBuf : Space → Nat
  | .hbm => 15
  | .vmem => 7
  | .smem => 0
  | _ => 0

abbrev bufTy : (tb : Table) → Fin (tcTables nBuf tb) → BufTy
  | .hbm, ⟨0, _⟩ => ⟨S8x256x32x32, .f32⟩
  | .hbm, ⟨1, _⟩ => ⟨S1024x256, .f32⟩
  | .hbm, ⟨2, _⟩ => ⟨S8x256x1024, .f32⟩
  | .hbm, ⟨3, _⟩ => ⟨S8x256x1024, .f32⟩
  | .hbm, ⟨4, _⟩ => ⟨S8x1x128, .f32⟩
  | .hbm, ⟨5, _⟩ => ⟨S8x1x1, .f32⟩
  | .hbm, ⟨6, _⟩ => ⟨S8, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8x256x32x32, .f32⟩
  | .local _ .vmem, ⟨0, _⟩ => ⟨S1x256x1024, .f32⟩
  | .local _ .vmem, ⟨1, _⟩ => ⟨S1x256x1024, .f32⟩
  | .local _ .vmem, ⟨2, _⟩ => ⟨S1024x256, .f32⟩
  | .local _ .vmem, ⟨3, _⟩ => ⟨S1x256x1024, .f32⟩
  | .local _ .vmem, ⟨4, _⟩ => ⟨S1x256x1024, .f32⟩
  | .local _ .vmem, ⟨5, _⟩ => ⟨S1x1x128, .f32⟩
  | .local _ .vmem, ⟨6, _⟩ => ⟨S1x1x128, .f32⟩
  | _, _ => ⟨S8x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8x256x32x32 : Shape := ⟨4, ![8, 256, 32, 32]⟩
abbrev S1024x256 : Shape := ⟨2, ![1024, 256]⟩
abbrev S8x32x32x256 : Shape := ⟨4, ![8, 32, 32, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x1024 : Shape := ⟨2, ![1, 1024]⟩
abbrev S8192x1024 : Shape := ⟨2, ![8192, 1024]⟩
abbrev S256x1024 : Shape := ⟨2, ![256, 1024]⟩
abbrev S1 : Shape := ⟨1, ![1]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S8x256x32x32, .f32⟩
  | .hbm, ⟨1, _⟩ => ⟨S1024x256, .f32⟩
  | .hbm, ⟨2, _⟩ => ⟨S8x32x32x256, .f32⟩
  | .hbm, ⟨3, _⟩ => ⟨S8192x256, .f32⟩
  | .hbm, ⟨4, _⟩ => ⟨S8192x256, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S1024x256, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S256x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .i32⟩
  | .hbm, ⟨22, _⟩ => ⟨S_, .f32⟩
  | .hbm, ⟨23, _⟩ => ⟨S_, .i32⟩
  | .hbm, ⟨24, _⟩ => ⟨S8192, .f32⟩
  | .hbm, ⟨25, _⟩ => ⟨S8192, .i32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S8192x1, .i32⟩
  | .hbm, ⟨34, _⟩ => ⟨S1, .i32⟩
  | .hbm, ⟨35, _⟩ => ⟨S_, .i32⟩
  | .hbm, ⟨36, _⟩ => ⟨S8192x1, .i32⟩
  | .hbm, ⟨37, _⟩ => ⟨S8192x1, .i1⟩
  | .hbm, ⟨38, _⟩ => ⟨S1x1, .i32⟩
  | .hbm, ⟨39, _⟩ => ⟨S8192x1, .i32⟩
  | .hbm, ⟨40, _⟩ => ⟨S8192x1, .i1⟩
  | .hbm, ⟨41, _⟩ => ⟨S8192x1, .i1⟩
  | .hbm, ⟨42, _⟩ => ⟨S_, .i1⟩
  | .hbm, ⟨43, _⟩ => ⟨S8192, .i1⟩
  | .hbm, ⟨44, _⟩ => ⟨S8192x256, .f32⟩
  | .hbm, ⟨45, _⟩ => ⟨S8192x256, .i1⟩
  | .hbm, ⟨46, _⟩ => ⟨S_, .f32⟩
  | .hbm, ⟨47, _⟩ => ⟨S8192x256, .f32⟩
  | .hbm, ⟨48, _⟩ => ⟨S8192x256, .f32⟩
  | .hbm, ⟨49, _⟩ => ⟨S8x32x32x256, .f32⟩
  | .hbm, ⟨50, _⟩ => ⟨S8x32x32x256, .f32⟩
  | .hbm, ⟨51, _⟩ => ⟨S8x32x32x256, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S8x32x32x256, .f32⟩
  | .hbm, ⟨59, _⟩ => ⟨S8x32x32x256, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S8x32x32x256, .f32⟩
  | .hbm, ⟨66, _⟩ => ⟨S8x32x32x256, .f32⟩
  | .hbm, ⟨67, _⟩ => ⟨S8x256x32x32, .f32⟩
  | _, _ => ⟨S8x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_cst_5 : Ref sig .tc := ⟨.hbm, 60, rfl⟩
abbrev main_v26 : Ref sig .tc := ⟨.hbm, 61, rfl⟩
abbrev main_cst_6 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩

abbrev nD : Nat := 1
abbrev τ : Topo := Topo.v7x

variable {F : FTy → Type} [FloatOps F]
-- ==== Proof.RefTerm.lean ====
/- The reference's results as terms of its two arguments, one definition for each step that has a meaning of its own:
   the distance of every row to every code vector, the index of the nearest code vector, the rows looked up, the loss,
   and the straight-through output. `RefRun.lean` proves that the reference's run ends with these terms. -/
module

public import proofs.«01_k».proof.Proof.Gen.ReferenceIdeal

@[expose] public section

noncomputable section

namespace Cert.Proof.Ref

open Cert.ReferenceIdeal Cert.ReferenceIdeal.Gen Idealize.ShloMosaic Idealize.SL.Sem

variable {F : FTy → Type} [FloatOps F]

/-- The input with its channel axis moved last. -/
def channelsLast (z : FVec F S8x256x32x32 .f32) : FVec F S8x32x32x256 .f32 :=
  transpose S8x32x32x256 [0, 2, 3, 1] z transposes_S8x256x32x32_S8x32x32x256_0_2_3_1

/-- The input as 8192 rows of 256 channels, one row for each pixel. -/
def rows (zl : FVec F S8x32x32x256 .f32) : FVec F S8192x256 .f32 :=
  shapeCast S8192x256 zl shapeCasts_S8x32x32x256_S8192x256

/-- The squared length of each row. -/
def rowSq (x : FVec F S8192x256 .f32) : FVec F S8192 .f32 :=
  Host.reduceAdd (mulf x x) (constant S_ .f32 0x00000000#32) reducesTo_S8192x256_S8192_d1 h_S_

/-- The squared length of each code vector. -/
def codeSq (e : FVec F S1024x256 .f32) : FVec F S1024 .f32 :=
  Host.reduceAdd (mulf e e) (constant S_ .f32 0x00000000#32) reducesTo_S1024x256_S1024_d1 h_S_

/-- The product of the rows with the transposed code book. -/
def cross (x : FVec F S8192x256 .f32) (e : FVec F S1024x256 .f32) : FVec F S8192x1024 .f32 :=
  Host.dotGeneral dot_S8192x256_S256x1024_S8192x1024_1_0_0_1_n_n none x
    (transpose S256x1024 [1, 0] e transposes_S1024x256_S256x1024_1_0)

/-- The squared distance of each row to each code vector: `(|x|² + |e|²) - 2 x·e`. -/
def dist (x : FVec F S8192x256 .f32) (e : FVec F S1024x256 .f32) : FVec F S8192x1024 .f32 :=
  subf
    (addf
      (broadcastInDim S8192x1024 ![0, 1] bcast_S8192x1_S8192x1024_0_1
        (broadcastInDim S8192x1 ![0] bcast_S8192_S8192x1_0 (rowSq x)))
      (broadcastInDim S8192x1024 ![0, 1] bcast_S1x1024_S8192x1024_0_1
        (broadcastInDim S1x1024 ![1] bcast_S1024_S1x1024_1 (codeSq e))))
    (mulf (broadcastInDim S8192x1024 ![] bcast_S_S8192x1024 (constant S_ .f32 0x40000000#32)) (cross x e))

/-- The index of the smallest entry of each row, the first of several. -/
def nearest (d : FVec F S8192x1024 .f32) : IVec S8192 32 :=
  fun j => (Host.argReduce reducer_argmin_f32_i32 d (iotaInDim S8192x1024 32 1) (constant S_ .f32 0x7F800000#32)
    (constantI S_ 32 0#32) reducesTo_S8192x1024_S8192_d1 h_S_ j).2

/-- An index as the look-up uses it: a negative one counts from the end. -/
def wrapped (i : IVec S8192 32) : IVec S8192x1 32 :=
  broadcastInDim S8192x1 ![0] bcast_S8192_S8192x1_0
    (select (cmpi .slt i (broadcastInDim S8192 ![] bcast_S_S8192 (constantI S_ 32 0#32)))
      (addi i (broadcastInDim S8192 ![] bcast_S_S8192 (constantI S_ 32 1024#32))) i)

/-- Whether an index, after wrapping, names a code vector. -/
def inRange (w : IVec S8192x1 32) : IVec S8192 1 :=
  Host.reduce IntOp.andi
    (andi (cmpi .sge w (broadcastInDim S8192x1 ![] bcast_S_S8192x1 (constantI S_ 32 0#32)))
      (cmpi .sle w (broadcastInDim S8192x1 ![0, 1] bcast_S1x1_S8192x1_0_1
        (broadcastInDim S1x1 ![1] bcast_S1_S1x1_1 (constantI S1 32 1023#32)))))
    (constantI S_ 1 1#1) reducesTo_S8192x1_S8192_d1 h_S_

/-- The code vectors that the indices name, one to a row; a fill value where an index names none. -/
def takeRows (e : FVec F S1024x256 .f32) (i : IVec S8192 32) : FVec F S8192x256 .f32 :=
  select (broadcastInDim S8192x256 ![0] bcast_S8192_S8192x256_0 (inRange (wrapped i)))
    (Host.gather gather_S1024x256_S8192x1_S8192x256_1_0_n_n_0_1_1256 e (wrapped i))
    (broadcastInDim S8192x256 ![] bcast_S_S8192x256 (constant S_ .f32 0x7FC00000#32))

/-- The rows laid out as the input with its channels last. -/
def pixels (x : FVec F S8192x256 .f32) : FVec F S8x32x32x256 .f32 :=
  shapeCast S8x32x32x256 x shapeCasts_S8192x256_S8x32x32x256

/-- The mean of the squared differences of the quantized input and the input. -/
def meanSq (q zl : FVec F S8x32x32x256 .f32) : FVec F S_ .f32 :=
  Host.divf
    (Host.reduceAdd (mulf (subf q zl) (subf q zl)) (constant S_ .f32 0x00000000#32)
      reducesTo_S8x32x32x256_S_d0_1_2_3 h_S_)
    (constant S_ .f32 0x4A000000#32)

/-- The loss: a quarter of the mean and the mean. -/
def loss (q zl : FVec F S8x32x32x256 .f32) : FVec F S_ .f32 :=
  addf (mulf (constant S_ .f32 0x3E800000#32) (meanSq q zl)) (meanSq q zl)

/-- The straight-through output `z + (q - z)`, its channel axis moved back. -/
def straight (q zl : FVec F S8x32x32x256 .f32) : FVec F S8x256x32x32 .f32 :=
  transpose S8x256x32x32 [0, 3, 1, 2] (addf zl (subf q zl)) transposes_S8x32x32x256_S8x256x32x32_0_3_1_2

/-- The quantized input, from the input with its channels last and the code book. -/
def quantized (zl : FVec F S8x32x32x256 .f32) (e : FVec F S1024x256 .f32) : FVec F S8x32x32x256 .f32 :=
  pixels (takeRows e (nearest (dist (rows zl) e)))

/-- The reference's first result. -/
def out (z : FVec F S8x256x32x32 .f32) (e : FVec F S1024x256 .f32) : FVec F S8x256x32x32 .f32 :=
  straight (quantized (channelsLast z) e) (channelsLast z)

/-- The reference's second result. -/
def lossOut (z : FVec F S8x256x32x32 .f32) (e : FVec F S1024x256 .f32) : FVec F S_ .f32 :=
  loss (quantized (channelsLast z) e) (channelsLast z)

end Cert.Proof.Ref

end
-- ==== Proof.RefRun.lean ====
/- The run of the reference: its 66 host operations in four groups (the distances, the argmin call, the look-up call, the
   loss and the straight-through output), what each group leaves in the buffers that later groups read, and the run with
   its two results at the terms of `RefTerm.lean`. -/
module

public import proofs.«01_k».proof.Proof.RefTerm
public import Idealize.ShloMosaic.Lib.StableHlo.Run
public import Idealize.ShloMosaic.Lib.Quiescent

@[expose] public section

noncomputable section

namespace Cert.Proof.Ref

open Cert.ReferenceIdeal Cert.ReferenceIdeal.Gen Idealize.ShloMosaic Idealize.ShloMosaic.TcCoe Idealize.SL.Sem
  Idealize.ShloMosaic.StableHlo

variable {F : FTy → Type} [FloatOps F]

/-! ## The operations -/

/-- The operations of the distances. -/
abbrev opsDist : List (HloOp τ sig (Elt F)) :=
  [ unary main_arg0 main_v0 ((transpose S8x32x32x256 [0, 2, 3, 1] · transposes_S8x256x32x32_S8x32x32x256_0_2_3_1) : FVec F S8x256x32x32 .f32 → FVec F S8x32x32x256 .f32),
    reshape main_v0 main_v1 (rfl : (.f32 : EltTy) = .f32) shapeCasts_S8x32x32x256_S8192x256,
    binary main_v1 main_v1 main_v2 (mulf : FVec F S8192x256 .f32 → FVec F S8192x256 .f32 → FVec F S8192x256 .f32),
    nullary main_cst (constant S_ .f32 0x00000000#32),
    binary main_v2 main_cst main_v3 ((fun x v => Host.reduceAdd x v reducesTo_S8192x256_S8192_d1 h_S_) : FVec F S8192x256 .f32 → FVec F S_ .f32 → FVec F S8192 .f32),
    unary main_v3 main_v4 (broadcastInDim S8192x1 ![0] bcast_S8192_S8192x1_0 : FVec F S8192 .f32 → FVec F S8192x1 .f32),
    binary main_arg1 main_arg1 main_v5 (mulf : FVec F S1024x256 .f32 → FVec F S1024x256 .f32 → FVec F S1024x256 .f32),
    nullary main_cst_0 (constant S_ .f32 0x00000000#32),
    binary main_v5 main_cst_0 main_v6 ((fun x v => Host.reduceAdd x v reducesTo_S1024x256_S1024_d1 h_S_) : FVec F S1024x256 .f32 → FVec F S_ .f32 → FVec F S1024 .f32),
    unary main_v6 main_v7 (broadcastInDim S1x1024 ![1] bcast_S1024_S1x1024_1 : FVec F S1024 .f32 → FVec F S1x1024 .f32),
    unary main_v4 main_v8 (broadcastInDim S8192x1024 ![0, 1] bcast_S8192x1_S8192x1024_0_1 : FVec F S8192x1 .f32 → FVec F S8192x1024 .f32),
    unary main_v7 main_v9 (broadcastInDim S8192x1024 ![0, 1] bcast_S1x1024_S8192x1024_0_1 : FVec F S1x1024 .f32 → FVec F S8192x1024 .f32),
    binary main_v8 main_v9 main_v10 (addf : FVec F S8192x1024 .f32 → FVec F S8192x1024 .f32 → FVec F S8192x1024 .f32),
    unary main_arg1 main_v11 ((transpose S256x1024 [1, 0] · transposes_S1024x256_S256x1024_1_0) : FVec F S1024x256 .f32 → FVec F S256x1024 .f32),
    binary main_v1 main_v11 main_v12 ((fun l r => Host.dotGeneral dot_S8192x256_S256x1024_S8192x1024_1_0_0_1_n_n none l r) : FVec F S8192x256 .f32 → FVec F S256x1024 .f32 → FVec F S8192x1024 .f32),
    nullary main_cst_1 (constant S_ .f32 0x40000000#32),
    unary main_cst_1 main_v13 (broadcastInDim S8192x1024 ![] bcast_S_S8192x1024 : FVec F S_ .f32 → FVec F S8192x1024 .f32),
    binary main_v13 main_v12 main_v14 (mulf : FVec F S8192x1024 .f32 → FVec F S8192x1024 .f32 → FVec F S8192x1024 .f32),
    binary main_v10 main_v14 main_v15 (subf : FVec F S8192x1024 .f32 → FVec F S8192x1024 .f32 → FVec F S8192x1024 .f32) ]

/-- The operations of the argmin call. -/
abbrev opsNearest : List (HloOp τ sig (Elt F)) :=
  [ TRef.nullary (.of (T := ⟨S8192x1024, .i32⟩) main_call0_v0) (iotaInDim S8192x1024 32 1),
    TRef.nullary (.of (T := ⟨S_, .f32⟩) main_call0_cst) (constant S_ .f32 0x7F800000#32),
    TRef.nullary (.of (T := ⟨S_, .i32⟩) main_call0_c) (constantI S_ 32 0#32),
    TRef.quaternary (.of (T := ⟨S8192x1024, .f32⟩) main_v15) (.of (T := ⟨S8192x1024, .i32⟩) main_call0_v0) (.of (T := ⟨S_, .f32⟩) main_call0_cst) (.of (T := ⟨S_, .i32⟩) main_call0_c) (.of (T := ⟨S8192, .f32⟩) main_call0_v1_0) (fun x y u v j => (Host.argReduce reducer_argmin_f32_i32 x y u v reducesTo_S8192x1024_S8192_d1 h_S_ j).1),
    TRef.quaternary (.of (T := ⟨S8192x1024, .f32⟩) main_v15) (.of (T := ⟨S8192x1024, .i32⟩) main_call0_v0) (.of (T := ⟨S_, .f32⟩) main_call0_cst) (.of (T := ⟨S_, .i32⟩) main_call0_c) (.of (T := ⟨S8192, .i32⟩) main_v16) (fun x y u v j => (Host.argReduce reducer_argmin_f32_i32 x y u v reducesTo_S8192x1024_S8192_d1 h_S_ j).2) ]

/-- The operations of the look-up call. -/
abbrev opsTake : List (HloOp τ sig (Elt F)) :=
  [ TRef.nullary (.of (T := ⟨S_, .i32⟩) main_call1_c) (constantI S_ 32 0#32),
    TRef.unary (.of (T := ⟨S_, .i32⟩) main_call1_c) (.of (T := ⟨S8192, .i32⟩) main_call1_v0) (broadcastInDim S8192 ![] bcast_S_S8192),
    TRef.binary (.of (T := ⟨S8192, .i32⟩) main_v16) (.of (T := ⟨S8192, .i32⟩) main_call1_v0) (.of (T := ⟨S8192, .i1⟩) main_call1_v1) (cmpi .slt),
    TRef.nullary (.of (T := ⟨S_, .i32⟩) main_call1_c_0) (constantI S_ 32 1024#32),
    TRef.unary (.of (T := ⟨S_, .i32⟩) main_call1_c_0) (.of (T := ⟨S8192, .i32⟩) main_call1_v2) (broadcastInDim S8192 ![] bcast_S_S8192),
    TRef.binary (.of (T := ⟨S8192, .i32⟩) main_v16) (.of (T := ⟨S8192, .i32⟩) main_call1_v2) (.of (T := ⟨S8192, .i32⟩) main_call1_v3) addi,
    TRef.ternary (.of (T := ⟨S8192, .i1⟩) main_call1_v1) (.of (T := ⟨S8192, .i32⟩) main_call1_v3) (.of (T := ⟨S8192, .i32⟩) main_v16) (.of (T := ⟨S8192, .i32⟩) main_call1_v4) select,
    TRef.unary (.of (T := ⟨S8192, .i32⟩) main_call1_v4) (.of (T := ⟨S8192x1, .i32⟩) main_call1_v5) (broadcastInDim S8192x1 ![0] bcast_S8192_S8192x1_0),
    TRef.nullary (.of (T := ⟨S1, .i32⟩) main_call1_c_1) (constantI S1 32 1023#32),
    TRef.nullary (.of (T := ⟨S_, .i32⟩) main_call1_c_2) (constantI S_ 32 0#32),
    TRef.unary (.of (T := ⟨S_, .i32⟩) main_call1_c_2) (.of (T := ⟨S8192x1, .i32⟩) main_call1_v6) (broadcastInDim S8192x1 ![] bcast_S_S8192x1),
    TRef.binary (.of (T := ⟨S8192x1, .i32⟩) main_call1_v5) (.of (T := ⟨S8192x1, .i32⟩) main_call1_v6) (.of (T := ⟨S8192x1, .i1⟩) main_call1_v7) (cmpi .sge),
    TRef.unary (.of (T := ⟨S1, .i32⟩) main_call1_c_1) (.of (T := ⟨S1x1, .i32⟩) main_call1_v8) (broadcastInDim S1x1 ![1] bcast_S1_S1x1_1),
    TRef.unary (.of (T := ⟨S1x1, .i32⟩) main_call1_v8) (.of (T := ⟨S8192x1, .i32⟩) main_call1_v9) (broadcastInDim S8192x1 ![0, 1] bcast_S1x1_S8192x1_0_1),
    TRef.binary (.of (T := ⟨S8192x1, .i32⟩) main_call1_v5) (.of (T := ⟨S8192x1, .i32⟩) main_call1_v9) (.of (T := ⟨S8192x1, .i1⟩) main_call1_v10) (cmpi .sle),
    TRef.binary (.of (T := ⟨S8192x1, .i1⟩) main_call1_v7) (.of (T := ⟨S8192x1, .i1⟩) main_call1_v10) (.of (T := ⟨S8192x1, .i1⟩) main_call1_v11) andi,
    TRef.nullary (.of (T := ⟨S_, .i1⟩) main_call1_c_3) (constantI S_ 1 1#1),
    TRef.binary (.of (T := ⟨S8192x1, .i1⟩) main_call1_v11) (.of (T := ⟨S_, .i1⟩) main_call1_c_3) (.of (T := ⟨S8192, .i1⟩) main_call1_v12) (fun x v => Host.reduce IntOp.andi x v reducesTo_S8192x1_S8192_d1 h_S_),
    TRef.binary (.of (T := ⟨S1024x256, .f32⟩) main_arg1) (.of (T := ⟨S8192x1, .i32⟩) main_call1_v5) (.of (T := ⟨S8192x256, .f32⟩) main_call1_v13) (fun x i => Host.gather gather_S1024x256_S8192x1_S8192x256_1_0_n_n_0_1_1256 x i),
    TRef.unary (.of (T := ⟨S8192, .i1⟩) main_call1_v12) (.of (T := ⟨S8192x256, .i1⟩) main_call1_v14) (broadcastInDim S8192x256 ![0] bcast_S8192_S8192x256_0),
    TRef.nullary (.of (T := ⟨S_, .f32⟩) main_call1_cst) (constant S_ .f32 0x7FC00000#32),
    TRef.unary (.of (T := ⟨S_, .f32⟩) main_call1_cst) (.of (T := ⟨S8192x256, .f32⟩) main_call1_v15) (broadcastInDim S8192x256 ![] bcast_S_S8192x256),
    TRef.ternary (.of (T := ⟨S8192x256, .i1⟩) main_call1_v14) (.of (T := ⟨S8192x256, .f32⟩) main_call1_v13) (.of (T := ⟨S8192x256, .f32⟩) main_call1_v15) (.of (T := ⟨S8192x256, .f32⟩) main_v17) select ]

/-- The operations of the loss and the straight-through output. -/
abbrev opsTail : List (HloOp τ sig (Elt F)) :=
  [ reshape main_v17 main_v18 (rfl : (.f32 : EltTy) = .f32) shapeCasts_S8192x256_S8x32x32x256,
    binary main_v18 main_v0 main_v19 (subf : FVec F S8x32x32x256 .f32 → FVec F S8x32x32x256 .f32 → FVec F S8x32x32x256 .f32),
    binary main_v19 main_v19 main_v20 (mulf : FVec F S8x32x32x256 .f32 → FVec F S8x32x32x256 .f32 → FVec F S8x32x32x256 .f32),
    nullary main_cst_2 (constant S_ .f32 0x00000000#32),
    binary main_v20 main_cst_2 main_v21 ((fun x v => Host.reduceAdd x v reducesTo_S8x32x32x256_S_d0_1_2_3 h_S_) : FVec F S8x32x32x256 .f32 → FVec F S_ .f32 → FVec F S_ .f32),
    nullary main_cst_3 (constant S_ .f32 0x4A000000#32),
    binary main_v21 main_cst_3 main_v22 (Host.divf : FVec F S_ .f32 → FVec F S_ .f32 → FVec F S_ .f32),
    nullary main_cst_4 (constant S_ .f32 0x3E800000#32),
    binary main_cst_4 main_v22 main_v23 (mulf : FVec F S_ .f32 → FVec F S_ .f32 → FVec F S_ .f32),
    binary main_v18 main_v0 main_v24 (subf : FVec F S8x32x32x256 .f32 → FVec F S8x32x32x256 .f32 → FVec F S8x32x32x256 .f32),
    binary main_v24 main_v24 main_v25 (mulf : FVec F S8x32x32x256 .f32 → FVec F S8x32x32x256 .f32 → FVec F S8x32x32x256 .f32),
    nullary main_cst_5 (constant S_ .f32 0x00000000#32),
    binary main_v25 main_cst_5 main_v26 ((fun x v => Host.reduceAdd x v reducesTo_S8x32x32x256_S_d0_1_2_3 h_S_) : FVec F S8x32x32x256 .f32 → FVec F S_ .f32 → FVec F S_ .f32),
    nullary main_cst_6 (constant S_ .f32 0x4A000000#32),
    binary main_v26 main_cst_6 main_v27 (Host.divf : FVec F S_ .f32 → FVec F S_ .f32 → FVec F S_ .f32),
    binary main_v23 main_v27 main_v28 (addf : FVec F S_ .f32 → FVec F S_ .f32 → FVec F S_ .f32),
    binary main_v18 main_v0 main_v29 (subf : FVec F S8x32x32x256 .f32 → FVec F S8x32x32x256 .f32 → FVec F S8x32x32x256 .f32),
    binary main_v0 main_v29 main_v30 (addf : FVec F S8x32x32x256 .f32 → FVec F S8x32x32x256 .f32 → FVec F S8x32x32x256 .f32),
    unary main_v30 main_v31 ((transpose S8x256x32x32 [0, 3, 1, 2] · transposes_S8x32x32x256_S8x256x32x32_0_3_1_2) : FVec F S8x32x32x256 .f32 → FVec F S8x256x32x32 .f32) ]

/-- All operations of the reference, in order. -/
abbrev ops : List (HloOp τ sig (Elt F)) := opsDist ++ (opsNearest ++ (opsTake ++ opsTail))

set_option maxRecDepth 8192 in
set_option maxHeartbeats 4000000 in
/-- The reference's program is that line of operations. -/
theorem main_eq (c : Dev nD) : main (F := F) c = seq ops := rfl

set_option maxRecDepth 8192 in
/-- Every operation touches the core's own buffers only. -/
theorem ops_sub : (ops : List (HloOp τ sig (Elt F))).Forall fun op => op.bufs ⊆ tcRefs τ sig :=
  ⟨unary_bufs_sub .., reshape_bufs_sub .., binary_bufs_sub .., nullary_bufs_sub .., binary_bufs_sub ..,
    unary_bufs_sub .., binary_bufs_sub .., nullary_bufs_sub .., binary_bufs_sub .., unary_bufs_sub ..,
    unary_bufs_sub .., unary_bufs_sub .., binary_bufs_sub .., unary_bufs_sub .., binary_bufs_sub ..,
    nullary_bufs_sub .., unary_bufs_sub .., binary_bufs_sub .., binary_bufs_sub .., nullary_bufs_sub ..,
    nullary_bufs_sub .., nullary_bufs_sub .., quaternary_bufs_sub .., quaternary_bufs_sub .., nullary_bufs_sub ..,
    unary_bufs_sub .., binary_bufs_sub .., nullary_bufs_sub .., unary_bufs_sub .., binary_bufs_sub ..,
    ternary_bufs_sub .., unary_bufs_sub .., nullary_bufs_sub .., nullary_bufs_sub .., unary_bufs_sub ..,
    binary_bufs_sub .., unary_bufs_sub .., unary_bufs_sub .., binary_bufs_sub .., binary_bufs_sub ..,
    nullary_bufs_sub .., binary_bufs_sub .., binary_bufs_sub .., unary_bufs_sub .., nullary_bufs_sub ..,
    unary_bufs_sub .., ternary_bufs_sub .., reshape_bufs_sub .., binary_bufs_sub .., binary_bufs_sub ..,
    nullary_bufs_sub .., binary_bufs_sub .., nullary_bufs_sub .., binary_bufs_sub .., nullary_bufs_sub ..,
    binary_bufs_sub .., binary_bufs_sub .., binary_bufs_sub .., nullary_bufs_sub .., binary_bufs_sub ..,
    nullary_bufs_sub .., binary_bufs_sub .., binary_bufs_sub .., binary_bufs_sub .., binary_bufs_sub ..,
    unary_bufs_sub ..⟩

/-- Running two lines one after the other is running their concatenation. -/
theorem after_two (l₁ l₂ : List (HloOp τ sig (Elt F))) (V : Valuation τ sig (Elt F)) :
    after (l₁ ++ l₂) V = after l₂ (after l₁ V) := by
  induction l₁ generalizing V with
  | nil => rfl
  | cons op l ih => exact ih _

/-! ## What each group leaves -/

section groups
variable (V : Valuation τ sig (Elt F))

/-- What the first group leaves: the input with its channels last, the distances, the arguments as they were. -/
theorem after_dist :
    after opsDist V (Proc.devRef .tc main_v0) = channelsLast (V (Proc.devRef .tc main_arg0))
    ∧ after opsDist V (Proc.devRef .tc main_v15)
        = dist (rows (channelsLast (V (Proc.devRef .tc main_arg0)))) (V (Proc.devRef .tc main_arg1))
    ∧ after opsDist V (Proc.devRef .tc main_arg0) = V (Proc.devRef .tc main_arg0)
    ∧ after opsDist V (Proc.devRef .tc main_arg1) = V (Proc.devRef .tc main_arg1) := by
  refine ⟨?_, ?_, ?_, ?_⟩ <;> (after_results_simp <;> rfl)

/-- What the argmin call leaves: the index of the nearest code vector, the rest as it was. -/
theorem after_nearest :
    after opsNearest V (Proc.devRef .tc main_v16) = nearest (V (Proc.devRef .tc main_v15))
    ∧ after opsNearest V (Proc.devRef .tc main_v0) = V (Proc.devRef .tc main_v0)
    ∧ after opsNearest V (Proc.devRef .tc main_arg0) = V (Proc.devRef .tc main_arg0)
    ∧ after opsNearest V (Proc.devRef .tc main_arg1) = V (Proc.devRef .tc main_arg1) := by
  refine ⟨?_, ?_, ?_, ?_⟩ <;>
    (simp only [opsNearest, TRef.nullary, TRef.quaternary, TRef.toBuf, TRef.ofBuf, cast_eq]; after_results_simp <;> rfl)

/-- What the look-up call leaves: the rows looked up, the rest as it was. -/
theorem after_take :
    after opsTake V (Proc.devRef .tc main_v17) = takeRows (V (Proc.devRef .tc main_arg1)) (V (Proc.devRef .tc main_v16))
    ∧ after opsTake V (Proc.devRef .tc main_v0) = V (Proc.devRef .tc main_v0)
    ∧ after opsTake V (Proc.devRef .tc main_arg0) = V (Proc.devRef .tc main_arg0)
    ∧ after opsTake V (Proc.devRef .tc main_arg1) = V (Proc.devRef .tc main_arg1) := by
  refine ⟨?_, ?_, ?_, ?_⟩ <;>
    (simp only [opsTake, TRef.nullary, TRef.unary, TRef.binary, TRef.ternary, TRef.toBuf, TRef.ofBuf, cast_eq]
     after_results_simp <;> rfl)

/-- What the last group leaves: the two results, the arguments as they were. -/
theorem after_tail :
    after opsTail V (Proc.devRef .tc main_v31) = straight (pixels (V (Proc.devRef .tc main_v17))) (V (Proc.devRef .tc main_v0))
    ∧ after opsTail V (Proc.devRef .tc main_v28) = loss (pixels (V (Proc.devRef .tc main_v17))) (V (Proc.devRef .tc main_v0))
    ∧ after opsTail V (Proc.devRef .tc main_arg0) = V (Proc.devRef .tc main_arg0)
    ∧ after opsTail V (Proc.devRef .tc main_arg1) = V (Proc.devRef .tc main_arg1) := by
  refine ⟨?_, ?_, ?_, ?_⟩ <;> (after_results_simp <;> rfl)

/-- What all the operations leave. -/
theorem after_ops :
    after ops V (Proc.devRef .tc main_v31) = out (V (Proc.devRef .tc main_arg0)) (V (Proc.devRef .tc main_arg1))
    ∧ after ops V (Proc.devRef .tc main_v28) = lossOut (V (Proc.devRef .tc main_arg0)) (V (Proc.devRef .tc main_arg1))
    ∧ after ops V (Proc.devRef .tc main_arg0) = V (Proc.devRef .tc main_arg0)
    ∧ after ops V (Proc.devRef .tc main_arg1) = V (Proc.devRef .tc main_arg1) := by
  obtain ⟨d0, d1, d2, d3⟩ := after_dist V
  obtain ⟨n0, n1, n2, n3⟩ := after_nearest (after opsDist V)
  obtain ⟨t0, t1, t2, t3⟩ := after_take (after opsNearest (after opsDist V))
  obtain ⟨r0, r1, r2, r3⟩ := after_tail (after opsTake (after opsNearest (after opsDist V)))
  rw [after_two, after_two, after_two, r0, r1, r2, r3, t0, t1, t2, t3, n0, n1, n2, n3, d0, d1, d2, d3]
  exact ⟨rfl, rfl, rfl, rfl⟩

end groups

/-! ## The run -/

/-- From any memory the reference terminates with its two results at their terms, its arguments as they were, and every
    semaphore counter at zero. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v31)
          = out (m ((c.tc : Thread nD τ).loc main_arg0)) (m ((c.tc : Thread nD τ).loc main_arg1))
      ∧ r.2.mem ((c.tc : Thread nD τ).loc main_v28)
          = lossOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono
    (fun r h => ⟨fun c => by
      obtain ⟨h0, h1, h2, h3⟩ := after_ops (launchContents m c)
      exact ⟨(h c main_v31).trans h0, (h c main_v28).trans h1, (h c main_arg0).trans h2, (h c main_arg1).trans h3⟩,
      sem_eq_zero_of_no_sems (by decide) _⟩)
    (run_seq (by decide) (by decide) defs main (fun _ => ops) main_eq (fun _ => ops_sub) m ρ)

end Cert.Proof.Ref

end
-- ==== Proof.Nearest.lean ====
/- The nearest code vector as mathematics: the squared distance the two programs write down, the first index at which a
   family of 1024 extended reals is smallest, and the three ways the programs find or use that index. -/
module

public import Idealize.ShloMosaic.PureOps.Ideal.Laws
public import Idealize.ShloMosaic.Lib.Pointwise

@[expose] public section

noncomputable section

namespace Cert.Proof

open Idealize.ShloMosaic

/-- The word of positive infinity reads as `⊤`. -/
theorem ofBits_inf : Ideal.ofBits .f32 2139095040#32 = ⊤ := by
  simp [Ideal.ofBits, Ideal.ieee, show BitVec.extractLsb' 23 8 2139095040#32 = 255#8 by decide,
    show BitVec.extractLsb' 0 23 2139095040#32 = 0#23 by decide, show BitVec.extractLsb' 31 1 2139095040#32 = 0#1 by decide]

/-- The integer one as a number. -/
theorem sitofp_one : (FloatOps.sitofp .f32 (1#32) : Ideal .f32) = (1 : EReal) := by
  show (((1#32).toInt : ℝ) : EReal) = 1
  norm_num

/-- The integer zero as a number. -/
theorem sitofp_zero : (FloatOps.sitofp .f32 (0#32) : Ideal .f32) = (0 : EReal) := by
  show (((0#32).toInt : ℝ) : EReal) = 0
  norm_num

/-- The squared distance of the vector `x` to the code vector `n`, written out as `(|x|² + |e n|²) - 2 e n·x`. -/
def sqdist (x : Fin 256 → EReal) (e : Fin 1024 → Fin 256 → EReal) (n : Fin 1024) : EReal :=
  ((∑ c, x c * x c) + ∑ c, e n c * e n c) - Ideal.ofBits .f32 0x40000000#32 * ∑ c, e n c * x c

/-- Of 1024 extended reals there is a first smallest one. -/
theorem exists_best (d : Fin 1024 → EReal) : ∃ k, (∀ j, d k ≤ d j) ∧ ∀ j, d j ≤ d k → k ≤ j := by
  obtain ⟨k₀, hk₀⟩ := Finite.exists_min d
  obtain ⟨k, hk, hmin⟩ := WellFounded.has_min (wellFounded_lt (α := Fin 1024)) {k | ∀ j, d k ≤ d j} ⟨k₀, hk₀⟩
  exact ⟨k, hk, fun j hj => not_lt.mp (hmin j fun i => hj.trans (hk i))⟩

/-- The first index at which `d` is smallest. -/
def best (d : Fin 1024 → EReal) : Fin 1024 := (exists_best d).choose

/-- At `best` the family is smallest. -/
theorem best_le (d : Fin 1024 → EReal) (j : Fin 1024) : d (best d) ≤ d j := (exists_best d).choose_spec.1 j

/-- No earlier index has a value as small. -/
theorem best_first (d : Fin 1024 → EReal) (j : Fin 1024) (h : d j ≤ d (best d)) : best d ≤ j :=
  (exists_best d).choose_spec.2 j h

/-- An index that is first among the smallest is `best`. -/
theorem eq_best (d : Fin 1024 → EReal) (k : Fin 1024) (hle : ∀ j, d k ≤ d j) (hfirst : ∀ j, d j ≤ d k → k ≤ j) :
    k = best d :=
  le_antisymm (hfirst _ (best_le d k)) (best_first d k (hle _))

/-- The running minimum from `⊤` is the value at `best`. -/
theorem fold_min_eq (d : Fin 1024 → EReal) : Finset.univ.fold min ⊤ d = d (best d) := by
  refine le_antisymm ?_ ?_
  · exact (Finset.fold_min_le _).2 (.inr ⟨best d, Finset.mem_univ _, le_rfl⟩)
  · exact (Finset.le_fold_min _).2 ⟨le_top, fun j _ => best_le d j⟩

/-- The signed minimum of two words is the smaller of their values. -/
theorem toInt_minsi (x y : BitVec 32) : (IntOp.minsi x y).toInt = min x.toInt y.toInt := by
  unfold IntOp.minsi
  rw [BitVec.slt_eq_decide]
  by_cases h : x.toInt < y.toInt
  · simp [h, le_of_lt h]
  · simp [h, not_lt.mp h]

/-- A word that writes an index has the index as its value. -/
theorem toInt_ofNat_fin (k : Fin 1024) : (BitVec.ofNat 32 k.val).toInt = k.val := by
  have := k.isLt
  rw [BitVec.toInt_eq_toNat_of_lt (by rw [BitVec.toNat_ofNat]; omega), BitVec.toNat_ofNat]
  omega

/-- The smallest index among those whose value is `m`, where `m` is the smallest value, is `best`. -/
theorem fold_minsi_eq (d : Fin 1024 → EReal) (m : EReal) (hm : m = d (best d)) :
    Finset.univ.fold IntOp.minsi 2147483647#32 (fun n : Fin 1024 => if d n = m then BitVec.ofNat 32 n.val else 1024#32)
      = BitVec.ofNat 32 (best d).val := by
  apply BitVec.eq_of_toInt_eq
  rw [toInt_ofNat_fin, ← Finset.fold_hom (op' := min) (m := BitVec.toInt) toInt_minsi]
  refine le_antisymm ?_ ?_
  · refine (Finset.fold_min_le _).2 (.inr ⟨best d, Finset.mem_univ _, ?_⟩)
    rw [if_pos hm.symm, toInt_ofNat_fin]
  · refine (Finset.le_fold_min _).2 ⟨?_, fun j _ => ?_⟩
    · have := (best d).isLt
      have h : (2147483647#32).toInt = 2147483647 := by decide
      omega
    · by_cases h : d j = m
      · rw [if_pos h, toInt_ofNat_fin]
        have := best_first d j (h.trans hm).le
        exact_mod_cast this
      · rw [if_neg h]
        have := (best d).isLt
        have h : (1024#32).toInt = 1024 := by decide
        omega

/-- One step of the search for the first smallest value: of two pairs (value, index) the one with the smaller value, on
    equal values the smaller index. -/
def pick (a b : EReal × BitVec 32) : EReal × BitVec 32 :=
  (if a.1 < b.1 then a.1 else b.1,
    if a.1 < b.1 ∨ a.1 = b.1 ∧ a.2.toInt < b.2.toInt then a.2 else b.2)

/-- What is known after the search went through a list of indices from the pair `(⊤, 0)`: the value is a lower bound, the
    index comes before every listed one of the same value, and it has the value, unless nothing below `⊤` was met. -/
theorem pick_foldl (d : Fin 1024 → EReal) (l : List (Fin 1024)) :
    ∃ k : Fin 1024, (l.foldl (fun a j => pick a (d j, BitVec.ofNat 32 j.val)) (⊤, 0#32)).2 = BitVec.ofNat 32 k.val ∧
      (∀ j ∈ l, (l.foldl (fun a j => pick a (d j, BitVec.ofNat 32 j.val)) (⊤, 0#32)).1 ≤ d j) ∧
      (∀ j ∈ l, d j = (l.foldl (fun a j => pick a (d j, BitVec.ofNat 32 j.val)) (⊤, 0#32)).1 → k ≤ j) ∧
      (((l.foldl (fun a j => pick a (d j, BitVec.ofNat 32 j.val)) (⊤, 0#32)).1 = ⊤ ∧ k = 0) ∨
        d k = (l.foldl (fun a j => pick a (d j, BitVec.ofNat 32 j.val)) (⊤, 0#32)).1) := by
  induction l using List.reverseRecOn with
  | nil => exact ⟨0, rfl, by simp, by simp, .inl ⟨rfl, rfl⟩⟩
  | append_singleton l i ih =>
    obtain ⟨k, hk, hle, hfirst, hval⟩ := ih
    rw [List.foldl_append, List.foldl_cons, List.foldl_nil]
    generalize l.foldl (fun a j => pick a (d j, BitVec.ofNat 32 j.val)) (⊤, 0#32) = a at hk hle hfirst hval
    obtain ⟨v, w⟩ := a
    simp only at hk hle hfirst hval
    subst hk
    simp only [List.mem_append, List.mem_singleton]
    unfold pick
    simp only [toInt_ofNat_fin]
    rcases lt_trichotomy v (d i) with h | h | h
    · refine ⟨k, by simp [h], ?_, ?_, ?_⟩
      · rintro j (hj | rfl) <;> simp only [h, if_true]
        · exact hle j hj
        · exact h.le
      · rintro j (hj | rfl) <;> simp only [h, if_true]
        · exact hfirst j hj
        · exact fun e => absurd e h.ne'
      · simpa [h] using hval
    · subst h
      by_cases hki : k < i
      · refine ⟨k, by simp [hki], ?_, ?_, ?_⟩
        · rintro j (hj | rfl)
          · simpa using hle j hj
          · simp
        · rintro j (hj | rfl)
          · simpa using hfirst j hj
          · exact fun _ => hki.le
        · simpa using hval
      · refine ⟨i, by simp [hki], ?_, ?_, ?_⟩
        · rintro j (hj | rfl)
          · simpa using hle j hj
          · simp
        · rintro j (hj | rfl)
          · exact fun e => (not_lt.mp hki).trans (hfirst j hj (by simpa using e))
          · exact fun _ => le_rfl
        · simp
    · refine ⟨i, by simp [h.not_gt, h.ne'], ?_, ?_, ?_⟩
      · rintro j (hj | rfl) <;> simp only [h.not_gt, if_false]
        · exact h.le.trans (hle j hj)
        · exact le_rfl
      · rintro j (hj | rfl) <;> simp only [h.not_gt, if_false]
        · exact fun e => absurd (e ▸ hle j hj) h.not_ge
        · exact fun _ => le_rfl
      · simp [h.not_gt]

/-- The search over a list with every index in it finds `best`. -/
theorem pick_foldl_all (d : Fin 1024 → EReal) (l : List (Fin 1024)) (hl : ∀ j, j ∈ l) :
    (l.foldl (fun a j => pick a (d j, BitVec.ofNat 32 j.val)) (⊤, 0#32)).2 = BitVec.ofNat 32 (best d).val := by
  obtain ⟨k, hk, hle, hfirst, hval⟩ := pick_foldl d l
  rw [hk]
  generalize (l.foldl (fun a j => pick a (d j, BitVec.ofNat 32 j.val)) (⊤, 0#32)).1 = v at hle hfirst hval
  refine congrArg (fun k : Fin 1024 => BitVec.ofNat 32 k.val) ?_
  rcases hval with ⟨rfl, rfl⟩ | h
  · exact eq_best d 0 (fun j => le_top.trans (hle j (hl j))) fun j _ => Fin.zero_le j
  · subst h
    exact eq_best d k (fun j => hle j (hl j)) fun j hj => hfirst j (hl j) (le_antisymm hj (hle j (hl j)))

/-- The vector a pixel is replaced by: the code vector nearest to it. -/
def near (x : Fin 256 → EReal) (e : Fin 1024 → Fin 256 → EReal) (c : Fin 256) : EReal :=
  e (best (sqdist x e)) c

/-- A sum against the indicator of one index is the entry there, whatever the entries. -/
theorem sum_indicator (f : Fin 1024 → EReal) (k : Fin 1024) : (∑ n, f n * if n = k then 1 else 0) = f k := by
  rw [Finset.sum_eq_single k (fun n _ h => by simp [h]) (fun h => absurd (Finset.mem_univ k) h)]
  simp

end Cert.Proof

end
-- ==== Proof.KernBlock.lean ====
/- What one block of the kernel computes: the distances, the picked indices and the product that looks the code vectors
   up, each a definition of its own, and what each holds at an index. -/
module

public import proofs.«01_k».proof.Proof.Gen.KernelIdeal.Skeleton
public import proofs.«01_k».proof.Proof.Nearest
public import Idealize.ShloMosaic.Lib.Pointwise

@[expose] public section

set_option maxRecDepth 16384

noncomputable section

namespace Cert.Proof.Block

open Cert.KernelIdeal Cert.KernelIdeal.Gen Idealize.ShloMosaic Idealize.ShloMosaic.Pointwise

/-- The block of the input as a matrix: channels by pixels. -/
def zmat (x0 : FVec Ideal S1x256x1024 .f32) : FVec Ideal S256x1024 .f32 :=
  shapeCast S256x1024 x0 shapeCasts_S1x256x1024_S256x1024

/-- The distances the body computes: code vectors by pixels. -/
def bdist (x : FVec Ideal S256x1024 .f32) (e : FVec Ideal S1024x256 .f32) : FVec Ideal S1024x1024 .f32 :=
  subf
    (addf
      (broadcastTo S1024x1024
        (shapeCast S1x1024 (multiReduction .add [0] S1024 (mulf x x) 0x00000000#32 reduces_S256x1024_S1024 (.inl rfl) rfl)
          shapeCasts_S1024_S1x1024) broadcasts_S1x1024_S1024x1024)
      (broadcastTo S1024x1024
        (shapeCast S1024x1 (multiReduction .add [1] S1024 (mulf e e) 0x00000000#32 reduces_S1024x256_S1024 (.inl rfl) rfl)
          shapeCasts_S1024_S1024x1) broadcasts_S1024x1_S1024x1024))
    (mulf (broadcast S1024x1024 (Scalar.ofBits .f32 0x40000000#32 : Ideal .f32))
      (matmul dot_S1024x256_S256x1024_S1024x1024_1_0_0_1_n_n none e x (constant S1024x1024 .f32 0x00000000#32)))

/-- The index the body picks for each pixel: the least index whose distance is the smallest. -/
def bidx (d : FVec Ideal S1024x1024 .f32) : IVec S1024 32 :=
  multiReductionI .minsi [0] S1024
    (select
      (cmpf .oeq d (broadcastTo S1024x1024
        (shapeCast S1x1024
          (multiReduction .minimumf [0] S1024 d 0x7F800000#32 reduces_S1024x1024_S1024 (.inl rfl) rfl)
          shapeCasts_S1024_S1x1024) broadcasts_S1x1024_S1024x1024))
      (iota .tc S1024x1024 32 [0] iota_S1024x1024_d0_w32) (broadcast S1024x1024 1024#32))
    2147483647#32 reduces_S1024x1024_S1024 rfl

/-- The look-up by a product: the code book against the indicator of the picked index. -/
def bq (e : FVec Ideal S1024x256 .f32) (i : IVec S1024 32) : FVec Ideal S256x1024 .f32 :=
  matmul dot_S1024x256_S1024x1024_S256x1024_0_0_1_1_n_n (some .fp32) e
    (sitofp .f32 (extui 32 (cmpi .eq (iota .tc S1024x1024 32 [0] iota_S1024x1024_d0_w32)
      (broadcastTo S1024x1024 (shapeCast S1x1024 i shapeCasts_S1024_S1x1024) broadcasts_S1x1024_S1024x1024)) natLt_1_32))
    (constant S256x1024 .f32 0x00000000#32)

/-- The quantized block as the body computes it, in these three steps. -/
theorem pay2_eq (x0 : FVec Ideal S1x256x1024 .f32) (e : FVec Ideal S1024x256 .f32) :
    k0_pay2 (F := Ideal) x0 e = bq e (bidx (bdist (zmat x0) e)) := rfl

/-- The block as a matrix holds the block's entries. -/
theorem zmat_at (x0 : FVec Ideal S1x256x1024 .f32) (c : Fin 256) (t : Fin 1024) :
    zmat x0 (ix2 c t) = x0 (ix3 (0 : Fin 1) c t) := by
  pointwise [zmat]

/-- The distances are the squared distances of the pixels to the code vectors. -/
theorem bdist_at (x : FVec Ideal S256x1024 .f32) (e : FVec Ideal S1024x256 .f32) (n t : Fin 1024) :
    bdist x e (ix2 n t) = sqdist (fun c => x (ix2 c t)) (fun n c => e (ix2 n c)) n := by
  pointwise [bdist, sqdist]

/-- The index picked for a pixel is the first at which its distances are smallest. -/
theorem bidx_at (d : FVec Ideal S1024x1024 .f32) (t : Fin 1024) :
    bidx d (ix1 t) = BitVec.ofNat 32 (best fun n => d (ix2 n t)).val := by
  pointwise [bidx]
  rw [ofBits_inf]
  exact fold_minsi_eq _ _ (fold_min_eq _)

/-- The product with the indicator looks the code vector up. -/
theorem bq_at (e : FVec Ideal S1024x256 .f32) (i : IVec S1024 32) (c : Fin 256) (t k : Fin 1024)
    (hk : i (ix1 t) = BitVec.ofNat 32 k.val) : bq e i (ix2 c t) = e (ix2 k c) := by
  pointwise [bq]
  rw [hk, ← sum_indicator (fun n => e (ix2 n c)) k]
  refine Finset.sum_congr rfl fun n _ => congrArg _ ?_
  have hn : n.val < 1024 := n.isLt
  have hk' : k.val < 1024 := k.isLt
  by_cases h : n = k
  · subst h
    simp [IntOp.cmpi, sitofp_one]
  · have h' : BitVec.ofNat 32 n.val ≠ BitVec.ofNat 32 k.val := fun e => h (Fin.ext (by
      have := congrArg BitVec.toNat e
      rw [BitVec.toNat_ofNat, BitVec.toNat_ofNat] at this
      omega))
    have hb : (BitVec.ofNat 32 n.val == BitVec.ofNat 32 k.val) = false := beq_eq_false_iff_ne.2 h'
    simp [IntOp.cmpi, h, hb, sitofp_zero]

/-- What the body computes: at every pixel the nearest code vector. -/
theorem pay2_at (x0 : FVec Ideal S1x256x1024 .f32) (e : FVec Ideal S1024x256 .f32) (c : Fin 256) (t : Fin 1024) :
    k0_pay2 (F := Ideal) x0 e (ix2 c t) = near (fun c => x0 (ix3 (0 : Fin 1) c t)) (fun n c => e (ix2 n c)) c := by
  rw [pay2_eq, bq_at e _ c t _ (bidx_at _ t)]
  simp only [bdist_at, zmat_at]
  rfl

/-- The first block the body stores: the nearest code vectors. -/
theorem pay3_at (x0 : FVec Ideal S1x256x1024 .f32) (e : FVec Ideal S1024x256 .f32) (u : Fin 1) (c : Fin 256) (t : Fin 1024) :
    k0_pay3 (F := Ideal) x0 e (ix3 u c t) = near (fun c => x0 (ix3 (0 : Fin 1) c t)) (fun n c => e (ix2 n c)) c := by
  rw [← pay2_at]
  pointwise [k0_pay3]

/-- The second block the body stores: at every place the sum of the squared differences over the block. -/
theorem pay4_at (x0 : FVec Ideal S1x256x1024 .f32) (e : FVec Ideal S1024x256 .f32) (y : S1x1x128.Idx) :
    k0_pay4 (F := Ideal) x0 e y
      = ∑ c : Fin 256, ∑ t : Fin 1024,
          (near (fun c => x0 (ix3 (0 : Fin 1) c t)) (fun n c => e (ix2 n c)) c - x0 (ix3 (0 : Fin 1) c t))
            * (near (fun c => x0 (ix3 (0 : Fin 1) c t)) (fun n c => e (ix2 n c)) c - x0 (ix3 (0 : Fin 1) c t)) := by
  pointwise [k0_pay4, k0_pay1]
  simp only [pay2_at]

end Cert.Proof.Block

end
-- ==== Proof.KernArray.lean ====
/- What the kernel's two result arrays hold after the region: the array of quantized blocks and the array of partial losses,
   each as one function of the contents the region started from. -/
module

public import proofs.«01_k».proof.Proof.Gen.KernelIdeal.Frame
public import proofs.«01_k».proof.Proof.KernBlock
public import Idealize.ShloMosaic.Lib.Pipeline.ValueKit

@[expose] public section

set_option maxRecDepth 16384

noncomputable section

namespace Cert.Proof.Arr

open Cert.KernelIdeal Cert.KernelIdeal.Gen Idealize.ShloMosaic Idealize.ShloMosaic.TcCoe Idealize.SL.Sem
open Cert.Proof.Block

/-- The array of quantized blocks, from the input as eight blocks and the code book. -/
def quant (Z : FVec Ideal S8x256x1024 .f32) (E : FVec Ideal S1024x256 .f32) : FVec Ideal S8x256x1024 .f32 :=
  fun i => near (fun c => Z (ix3 (i 0) c (i 2))) (fun n c => E (ix2 n c)) (i 1)

/-- The sum of the squared differences over block `b`. -/
def blockLoss (Z : FVec Ideal S8x256x1024 .f32) (E : FVec Ideal S1024x256 .f32) (b : Fin 8) : EReal :=
  ∑ c : Fin 256, ∑ t : Fin 1024,
    (quant Z E (ix3 b c t) - Z (ix3 b c t)) * (quant Z E (ix3 b c t) - Z (ix3 b c t))

/-- The array of partial losses: the sum of each block, at every lane. -/
def losses (Z : FVec Ideal S8x256x1024 .f32) (E : FVec Ideal S1024x256 .f32) : FVec Ideal S8x1x128 .f32 :=
  fun i => blockLoss Z E (i 0)

/-- The quantized blocks at an index. -/
theorem quant_at (Z : FVec Ideal S8x256x1024 .f32) (E : FVec Ideal S1024x256 .f32) (b : Fin 8) (k : Fin 256) (t : Fin 1024) :
    quant Z E (ix3 b k t) = near (fun c => Z (ix3 b c t)) (fun n c => E (ix2 n c)) k := by
  pointwise [quant]

/-- The partial losses at an index. -/
theorem losses_at (Z : FVec Ideal S8x256x1024 .f32) (E : FVec Ideal S1024x256 .f32) (b : Fin 8) (u : Fin 1) (l : Fin 128) :
    losses Z E (ix3 b u l) = ∑ c : Fin 256, ∑ t : Fin 1024,
      (near (fun c => Z (ix3 b c t)) (fun n c => E (ix2 n c)) c - Z (ix3 b c t))
        * (near (fun c => Z (ix3 b c t)) (fun n c => E (ix2 n c)) c - Z (ix3 b c t)) := by
  pointwise [losses, blockLoss]
  simp only [quant_at]

variable (m : (ℓ : Loc nD τ sig) → Buf (Elt Ideal) ℓ)

/-- Where each window's block lies at a grid point: block `t` of the input and of the two results, the code book whole. -/
theorem idx : ∀ t : Fin cfg0.N,
    win0_0.index t = ![t.val, 0, 0] ∧ win0_1.index t = ![0, 0] ∧ win0_2.index t = ![t.val, 0, 0]
      ∧ win0_3.index t = ![t.val, 0, 0] :=
  (by decide +kernel : ∀ t : Fin grid0.N, _)

/-- The block a grid point works on. -/
def blockOf (t : Fin cfg0.N) : Fin 8 := ⟨t.val, t.isLt⟩

/-- The input window's block at a point is that block of the input. -/
theorem iblk0_at (c : Dev nD) (t : Fin cfg0.N) (u : Fin 1) (k : Fin 256) (p : Fin 1024) :
    iblk m c 0 t (ix3 u k p) = V m c main_v0 (ix3 (blockOf t) k p) := by
  blk_ext [iblk, idx t, blockOf]

/-- The code book's window holds the code book at every point. -/
theorem iblk1_at (c : Dev nD) (t : Fin cfg0.N) (n : Fin 1024) (k : Fin 256) :
    iblk m c 1 t (ix2 n k) = V m c main_arg1 (ix2 n k) := by
  blk_ext [iblk, idx t]

/-- What the body leaves for the first result at a point: that block of the quantized blocks. -/
theorem point_quant (c : Dev nD) (t : Fin cfg0.N) (u : Fin 1) (k : Fin 256) (p : Fin 1024) :
    k0_pay3 (F := Ideal) (iblk m c 0 t) (iblk m c 1 t) (ix3 u k p)
      = quant (V m c main_v0) (V m c main_arg1) (ix3 (blockOf t) k p) := by
  refine (pay3_at (iblk m c 0 t) (iblk m c 1 t) u k p).trans ?_
  simp only [iblk0_at, iblk1_at]
  exact (quant_at (V m c main_v0) (V m c main_arg1) (blockOf t) k p).symm

/-- What the body leaves for the second result at a point: the sum of that block. -/
theorem point_losses (c : Dev nD) (t : Fin cfg0.N) (y : S1x1x128.Idx) (u : Fin 1) (l : Fin 128) :
    k0_pay4 (F := Ideal) (iblk m c 0 t) (iblk m c 1 t) y
      = losses (V m c main_v0) (V m c main_arg1) (ix3 (blockOf t) u l) := by
  refine (pay4_at (iblk m c 0 t) (iblk m c 1 t) y).trans ?_
  simp only [iblk0_at, iblk1_at]
  exact (losses_at (V m c main_v0) (V m c main_arg1) (blockOf t) u l).symm

/-- After the region the first result array holds the quantized blocks. -/
theorem arr_quant (c : Dev nD) :
    (dats m 0 c).arrAt 2 cfg0.N = quant (V m c main_v0) (V m c main_arg1) := by
  refine (dats m 0 c).arrAt_eq_of_covers 2 _ (by decide +kernel) fun t hf y => ?_
  blk_simp
  rw [after0_2]
  frame_out
  have hemb : ((View.whole main_v1_0).slice (win0_2.rect t)).emb y = ix3 (blockOf t) (y 1) (y 2) := by
    blk_ext [idx t, blockOf]
  have hy : y = ix3 (y 0) (y 1) (y 2) := by blk_ext
  rw [hemb]
  exact (congrArg (k0_pay3 (F := Ideal) (iblk m c 0 t) (iblk m c 1 t)) hy).trans (point_quant m c t (y 0) (y 1) (y 2))

/-- After the region the second result array holds the partial losses. -/
theorem arr_losses (c : Dev nD) :
    (dats m 0 c).arrAt 3 cfg0.N = losses (V m c main_v0) (V m c main_arg1) := by
  refine (dats m 0 c).arrAt_eq_of_covers 3 _ (by decide +kernel) fun t hf y => ?_
  blk_simp
  rw [after0_3]
  frame_out
  have hemb : ((View.whole main_v1_1).slice (win0_3.rect t)).emb y = ix3 (blockOf t) (y 1) (y 2) := by
    blk_ext [idx t, blockOf]
  rw [hemb]
  exact point_losses m c t y (y 1) (y 2)

end Cert.Proof.Arr

end
-- ==== Proof.KernRun.lean ====
/- The kernel's run: its two results as terms of the two arguments. The host's lines around the region reshape the input
   and the quantized blocks, and sum the partial losses. -/
module

public import proofs.«01_k».proof.Proof.KernArray

@[expose] public section

set_option maxRecDepth 16384

noncomputable section

namespace Cert.Proof.Kern

open Cert.KernelIdeal Cert.KernelIdeal.Gen Idealize.ShloMosaic Idealize.ShloMosaic.TcCoe Idealize.SL.Sem
open Idealize.ShloMosaic.StableHlo Cert.Proof.Arr

/-- The input as eight blocks of 256 channels by 1024 pixels. -/
def blocks (z : FVec Ideal S8x256x32x32 .f32) : FVec Ideal S8x256x1024 .f32 :=
  shapeCast S8x256x1024 z shapeCasts_S8x256x32x32_S8x256x1024

/-- The kernel's first result: the quantized blocks in the input's layout. -/
def out (z : FVec Ideal S8x256x32x32 .f32) (e : FVec Ideal S1024x256 .f32) : FVec Ideal S8x256x32x32 .f32 :=
  shapeCast S8x256x32x32 (quant (blocks z) e) shapeCasts_S8x256x1024_S8x256x32x32

/-- The mean of the squared differences, from the partial losses. -/
def mean (l : FVec Ideal S8x1x128 .f32) : FVec Ideal S_ .f32 :=
  Host.divf
    (Host.reduceAdd
      (shapeCast S8 (extractStridedSlice S8x1x1 ![0, 0, 0] l slices_S8x1x128_S8x1x1_0_0_0) shapeCasts_S8x1x1_S8)
      (constant S_ .f32 0x00000000#32) reducesTo_S8_S_d0 h_S_)
    (constant S_ .f32 0x4A000000#32)

/-- The loss from the partial losses: a quarter of the mean and the mean. -/
def total (l : FVec Ideal S8x1x128 .f32) : FVec Ideal S_ .f32 :=
  addf (mulf (constant S_ .f32 0x3E800000#32) (mean l)) (mean l)

/-- The kernel's second result. -/
def lossOut (z : FVec Ideal S8x256x32x32 .f32) (e : FVec Ideal S1024x256 .f32) : FVec Ideal S_ .f32 :=
  total (losses (blocks z) e)

variable (m : (ℓ : Loc nD τ sig) → Buf (Elt Ideal) ℓ)

/-- The region finds the input as blocks. -/
theorem V_blocks (c : Dev nD) : V m c main_v0 = blocks (m ((c : Thread nD τ).loc main_arg0)) := by
  entry_read
  rfl

/-- The host's lines after the region, at the two results. -/
theorem after_tail (W : Valuation τ sig (Elt Ideal)) :
    after (List.flatten [hostOps1]) W (Proc.devRef .tc main_v8)
        = shapeCast S8x256x32x32 (W (Proc.devRef .tc main_v1_0)) shapeCasts_S8x256x1024_S8x256x32x32
    ∧ after (List.flatten [hostOps1]) W (Proc.devRef .tc main_v7) = total (W (Proc.devRef .tc main_v1_1)) := by
  constructor <;> (simp only [List.flatten_cons, List.flatten_nil, List.append_nil]; after_results_simp <;> rfl)

/-- The first result after the whole program. -/
theorem final_out (c : Dev nD) :
    Pipeline.afterTail₀ cfgs (dats m) 0 (V0 m) [hostOps1] c main_v8
      = out (m ((c : Thread nD τ).loc main_arg0)) (m ((c : Thread nD τ).loc main_arg1)) := by
  unfold Pipeline.afterTail₀
  rw [(after_tail _).1]
  have h := Pipeline.withArrays_arr (τ := τ) spec0 launch0.win.arr_inj c (V0 m c) (fun w => (dats m 0 c).arrAt w cfg0.N) 2
  refine (congrArg (shapeCast S8x256x32x32 · shapeCasts_S8x256x1024_S8x256x32x32) (h.trans (arr_quant m c))).trans ?_
  rw [V_blocks, V_main_arg1]
  rfl

/-- The second result after the whole program. -/
theorem final_loss (c : Dev nD) :
    Pipeline.afterTail₀ cfgs (dats m) 0 (V0 m) [hostOps1] c main_v7
      = lossOut (m ((c : Thread nD τ).loc main_arg0)) (m ((c : Thread nD τ).loc main_arg1)) := by
  unfold Pipeline.afterTail₀
  rw [(after_tail _).2]
  have h := Pipeline.withArrays_arr (τ := τ) spec0 launch0.win.arr_inj c (V0 m c) (fun w => (dats m 0 c).arrAt w cfg0.N) 3
  refine (congrArg total (h.trans (arr_losses m c))).trans ?_
  rw [V_blocks, V_main_arg1]
  rfl

/-- The kernel's run: it ends with the two results at these terms and the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v8) = out (m ((c.tc : Thread nD τ).loc main_arg0)) (m ((c.tc : Thread nD τ).loc main_arg1))
      ∧ r.2.mem ((c.tc : Thread nD τ).loc main_v7) = lossOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  θ_run_mono (θ_run_and (run_main m ρ) (unchanged m ρ)) fun _ h c =>
    ⟨((h.1 c).2 main_v8 (Pipeline.mem_restRefs_of main_v8 (by decide) (by decide))).trans (final_out m c),
      ((h.1 c).2 main_v7 (Pipeline.mem_restRefs_of main_v7 (by decide) (by decide))).trans (final_loss m c), h.2 c⟩

end Cert.Proof.Kern

end
-- ==== Proof.RefValue.lean ====
/- What the reference's terms hold at an index: the distances, the nearest index, the rows looked up, and the two results. -/
module

public import proofs.«01_k».proof.Proof.RefTerm
public import proofs.«01_k».proof.Proof.Nearest
public import Idealize.ShloMosaic.Lib.Pointwise
public import Idealize.ShloMosaic.Lib.Routing.Ops

@[expose] public section

set_option maxRecDepth 16384

noncomputable section

namespace Cert.Proof.Ref

open Cert.ReferenceIdeal Cert.ReferenceIdeal.Gen Idealize.ShloMosaic

/-- The distances are the squared distances of the rows to the code vectors. -/
theorem dist_at (x : FVec Ideal S8192x256 .f32) (e : FVec Ideal S1024x256 .f32) (r : Fin 8192) (n : Fin 1024) :
    dist x e (ix2 r n) = sqdist (fun c => x (ix2 r c)) (fun n c => e (ix2 n c)) n := by
  pointwise [dist, rowSq, codeSq, cross, sqdist]
  simp only [mul_comm]

/-- The body of the search is `pick`: no extended real differs from itself. -/
theorem reducer_eq (a b : EReal × BitVec 32) : reducer_argmin_f32_i32 (F := Ideal) a b = pick a b := by
  obtain ⟨v, i⟩ := a
  obtain ⟨w, j⟩ := b
  have hlt : FloatOps.cmpf (F := Ideal) (φ := .f32) .olt v w = BitVec.ofBool (decide (v < w)) := rfl
  have hne : FloatOps.cmpf (F := Ideal) (φ := .f32) .une v v = BitVec.ofBool (decide (v ≠ v)) := rfl
  have heq : FloatOps.cmpf (F := Ideal) (φ := .f32) .oeq v w = BitVec.ofBool (decide (v = w)) := rfl
  simp only [reducer_argmin_f32_i32, pick, hlt, hne, heq, IntOp.cmpi, BitVec.slt_eq_decide]
  by_cases h₁ : v < w <;> by_cases h₂ : v = w <;> by_cases h₃ : i.toInt < j.toInt <;>
    simp [h₁, h₂, h₃, IntOp.ori, IntOp.andi, Scalar.select]

/-- A reduction of pairs at a result index goes through a list of exactly the indices that reduce to it. -/
theorem reduce2_list {s t u : Shape} {axes : List (Fin s.rank)} {α β : Type} (f : α × β → α × β → α × β) (x : s.Idx → α)
    (y : s.Idx → β) (ix : u.Idx → α) (iy : u.Idx → β) (h : s.ReducesTo axes t) (hu : 0 < u.numel) (j : t.Idx) :
    ∃ L : List s.Idx, (∀ i, i ∈ L ↔ h.drop i = j) ∧
      Host.reduce2 f x y ix iy h hu j
        = L.foldl (fun a i => f a (x i, y i)) (ix (Shape.Idx.first hu), iy (Shape.Idx.first hu)) := by
  refine ⟨((List.finRange s.numel).filter fun n => h.drop (s.rowMajor.symm n) = j).map s.rowMajor.symm, fun i => ?_, ?_⟩
  · simp only [List.mem_map, List.mem_filter, List.mem_finRange, true_and, decide_eq_true_eq]
    constructor
    · rintro ⟨n, hn, rfl⟩
      exact hn
    · intro hi
      exact ⟨s.rowMajor i, by rw [Equiv.symm_apply_apply]; exact hi, Equiv.symm_apply_apply _ _⟩
  · rw [List.foldl_map]
    rfl

/-- The column of an entry. -/
def col (i : S8192x1024.Idx) : Fin 1024 := i 1

/-- Going through entries of one row, the search goes through their columns. -/
theorem foldl_row (d : FVec Ideal S8192x1024 .f32) (r : Fin 8192) (L : List S8192x1024.Idx)
    (h : ∀ i ∈ L, i = ix2 r (col i)) (a : EReal × BitVec 32) :
    L.foldl (fun a i => reducer_argmin_f32_i32 (F := Ideal) a (d i, iotaInDim S8192x1024 32 1 i)) a
      = (L.map col).foldl (fun a j => pick a (d (ix2 r j), BitVec.ofNat 32 j.val)) a := by
  induction L generalizing a with
  | nil => rfl
  | cons i L ih =>
    have hi : reducer_argmin_f32_i32 (F := Ideal) a (d i, iotaInDim S8192x1024 32 1 i)
        = pick a (d (ix2 r (col i)), BitVec.ofNat 32 (col i).val) :=
      (reducer_eq a (d i, iotaInDim S8192x1024 32 1 i)).trans
        (congrArg (fun v : EReal => pick a (v, BitVec.ofNat 32 (col i).val)) (congrArg d (h i List.mem_cons_self)))
    rw [List.map_cons, List.foldl_cons, List.foldl_cons, hi]
    exact ih (fun i' h' => h i' (List.mem_cons_of_mem _ h')) _

/-- The index component of a reduction that finds the place of an extreme value. -/
def argIndex {s t u : Shape} {axes : List (Fin s.rank)} (f : EReal × BitVec 32 → EReal × BitVec 32 → EReal × BitVec 32)
    (x : FVec Ideal s .f32) (y : IVec s 32) (ix : FVec Ideal u .f32) (iy : IVec u 32) (h : s.ReducesTo axes t)
    (hu : 0 < u.numel) : IVec t 32 :=
  fun j => (Host.argReduce (F := Ideal) (φ := .f32) f x y ix iy h hu j).2

/-- It goes through a list of exactly the indices that reduce to the result index. -/
theorem argIndex_list {s t u : Shape} {axes : List (Fin s.rank)} (f : EReal × BitVec 32 → EReal × BitVec 32 → EReal × BitVec 32)
    (x : FVec Ideal s .f32) (y : IVec s 32) (ix : FVec Ideal u .f32) (iy : IVec u 32) (h : s.ReducesTo axes t)
    (hu : 0 < u.numel) (j : t.Idx) :
    ∃ L : List s.Idx, (∀ i, i ∈ L ↔ h.drop i = j) ∧
      argIndex f x y ix iy h hu j
        = (L.foldl (fun a i => f a (x i, y i)) (ix (Shape.Idx.first hu), iy (Shape.Idx.first hu))).2 := by
  obtain ⟨L, hL, e⟩ := reduce2_list f x y ix iy h hu j
  refine ⟨L, hL, ?_⟩
  unfold argIndex
  rw [Ideal.argReduce_eq_reduce2, e]

/-- The entries that reduce to a row are the entries of the row. -/
theorem drop_iff (r : Fin 8192) (i : S8192x1024.Idx) :
    reducesTo_S8192x1024_S8192_d1.drop i = ix1 r ↔ ∃ k : Fin 1024, ix2 r k = i :=
  reducesTo_S8192x1024_S8192_d1.fiber_r2_a1 (ix1 r) i

/-- The reference's index is that component. -/
theorem nearest_eq (d : FVec Ideal S8192x1024 .f32) :
    nearest d = argIndex (reducer_argmin_f32_i32 (F := Ideal)) d (iotaInDim S8192x1024 32 1)
      (constant S_ .f32 0x7F800000#32) (constantI S_ 32 0#32) reducesTo_S8192x1024_S8192_d1 h_S_ := rfl

/-- The nearest index of a row is the first at which its entries are smallest. -/
theorem nearest_at (d : FVec Ideal S8192x1024 .f32) (r : Fin 8192) :
    nearest d (ix1 r) = BitVec.ofNat 32 (best fun n => d (ix2 r n)).val := by
  rw [nearest_eq]
  obtain ⟨L, hL, e⟩ := argIndex_list (reducer_argmin_f32_i32 (F := Ideal)) d (iotaInDim S8192x1024 32 1)
    (constant S_ .f32 0x7F800000#32) (constantI S_ 32 0#32) reducesTo_S8192x1024_S8192_d1 h_S_ (ix1 r)
  have htop : (constant (F := Ideal) S_ .f32 0x7F800000#32) (Shape.Idx.first h_S_) = (⊤ : EReal) := ofBits_inf
  have hzero : (constantI S_ 32 0#32) (Shape.Idx.first h_S_) = 0#32 := rfl
  rw [e, htop, hzero, foldl_row d r L fun i hi => ?_]
  · refine pick_foldl_all (fun n => d (ix2 r n)) _ fun k => ?_
    exact List.mem_map.2 ⟨ix2 r k, (hL _).2 ((drop_iff r _).2 ⟨k, rfl⟩), rfl⟩
  · obtain ⟨k, rfl⟩ := (drop_iff r i).1 ((hL i).1 hi)
    rfl

/-- An index that names a code vector is not wrapped. -/
theorem wrapped_at (i : IVec S8192 32) (r : Fin 8192) (k : Fin 1024) (hk : i (ix1 r) = BitVec.ofNat 32 k.val) :
    wrapped i (ix2 r (0 : Fin 1)) = BitVec.ofNat 32 k.val := by
  pointwise [wrapped]
  rw [hk]
  have h : IntOp.cmpi .slt (BitVec.ofNat 32 k.val) 0#32 = 0#1 := by
    simp only [IntOp.cmpi, BitVec.slt_eq_decide, toInt_ofNat_fin]
    have : ¬ ((k.val : Int) < (0#32).toInt) := by simp
    rw [decide_eq_false this]
    rfl
  rw [h]
  rfl

/-- Such an index is in range. -/
theorem inRange_at (w : IVec S8192x1 32) (r : Fin 8192) (k : Fin 1024) (hk : w (ix2 r (0 : Fin 1)) = BitVec.ofNat 32 k.val) :
    inRange w (ix1 r) = 1#1 := by
  pointwise [inRange]
  rw [Finset.univ_unique, Finset.fold_singleton]
  have h0 : (default : Fin 1) = 0 := rfl
  have hlt : k.val < 1024 := k.isLt
  have hz : (0#32).toInt ≤ (k.val : Int) := by simp
  have hm : (k.val : Int) ≤ (1023#32).toInt := by
    have : (1023#32).toInt = 1023 := by decide
    omega
  rw [h0, hk]
  simp only [IntOp.cmpi, BitVec.sle_eq_decide, toInt_ofNat_fin, decide_eq_true hz, decide_eq_true hm]
  rfl

/-- The look-up at a row whose index names the code vector `k`: that code vector. -/
theorem takeRows_at (e : FVec Ideal S1024x256 .f32) (i : IVec S8192 32) (r : Fin 8192) (c : Fin 256) (k : Fin 1024)
    (hk : i (ix1 r) = BitVec.ofNat 32 k.val) : takeRows e i (ix2 r c) = e (ix2 k c) := by
  have hw := wrapped_at i r k hk
  pointwise [takeRows]
  rw [inRange_at _ r k hw]
  simp only [ix2_eq_valueIdx] at hw ⊢
  exact Routing.gather_row gather_S1024x256_S8192x1_S8192x256_1_0_n_n_0_1_1256 rfl rfl rfl rfl rfl e (wrapped i) r c k hw
    (by decide)

/-- Every row of the quantized input is the code vector nearest to the row. -/
theorem quantized_row (x : FVec Ideal S8192x256 .f32) (e : FVec Ideal S1024x256 .f32) (r : Fin 8192) (c : Fin 256) :
    takeRows e (nearest (dist x e)) (ix2 r c) = near (fun c => x (ix2 r c)) (fun n c => e (ix2 n c)) c := by
  rw [takeRows_at e _ r c _ (nearest_at _ r)]
  simp only [dist_at]
  rfl

/-- The input with its channels last. -/
theorem channelsLast_at (z : FVec Ideal S8x256x32x32 .f32) (b : Fin 8) (h w : Fin 32) (c : Fin 256) :
    channelsLast z (ix4 b h w c) = z (ix4 b c h w) := by
  pointwise [channelsLast]

/-- The row number of a pixel. -/
def rowOf (b : Fin 8) (h w : Fin 32) : Fin 8192 :=
  ⟨b.val * 1024 + h.val * 32 + w.val, by have := b.isLt; have := h.isLt; have := w.isLt; omega⟩

/-- The row of a pixel holds the pixel's channels. -/
theorem rows_at (z : FVec Ideal S8x256x32x32 .f32) (b : Fin 8) (h w : Fin 32) (c : Fin 256) :
    rows (channelsLast z) (ix2 (rowOf b h w) c) = z (ix4 b c h w) := by
  pointwise [rows, channelsLast, rowOf]

/-- The rows laid out as pixels. -/
theorem pixels_at (x : FVec Ideal S8192x256 .f32) (b : Fin 8) (h w : Fin 32) (c : Fin 256) :
    pixels x (ix4 b h w c) = x (ix2 (rowOf b h w) c) := by
  pointwise [pixels, rowOf]

/-- The quantized input at a pixel: the code vector nearest to the pixel's channels. -/
theorem quantized_at (z : FVec Ideal S8x256x32x32 .f32) (e : FVec Ideal S1024x256 .f32) (b : Fin 8) (h w : Fin 32)
    (c : Fin 256) :
    quantized (channelsLast z) e (ix4 b h w c) = near (fun c => z (ix4 b c h w)) (fun n c => e (ix2 n c)) c := by
  unfold quantized
  rw [pixels_at, quantized_row]
  simp only [rows_at]

/-- The reference's first result: the pixel plus the difference of its nearest code vector and itself. -/
theorem out_at (z : FVec Ideal S8x256x32x32 .f32) (e : FVec Ideal S1024x256 .f32) (b : Fin 8) (c : Fin 256) (h w : Fin 32) :
    out z e (ix4 b c h w)
      = z (ix4 b c h w) + (near (fun c => z (ix4 b c h w)) (fun n c => e (ix2 n c)) c - z (ix4 b c h w)) := by
  unfold out
  have hs : ∀ q zl : FVec Ideal S8x32x32x256 .f32,
      straight q zl (ix4 b c h w) = zl (ix4 b h w c) + (q (ix4 b h w c) - zl (ix4 b h w c)) := fun q zl => by
    pointwise [straight]
  rw [hs, channelsLast_at, quantized_at]

/-- The sum of the squared differences of the nearest code vectors and the input, pixel by pixel. -/
def sqSum (z : FVec Ideal S8x256x32x32 .f32) (e : FVec Ideal S1024x256 .f32) : EReal :=
  ∑ b : Fin 8, ∑ h : Fin 32, ∑ w : Fin 32, ∑ c : Fin 256,
    (near (fun c => z (ix4 b c h w)) (fun n c => e (ix2 n c)) c - z (ix4 b c h w))
      * (near (fun c => z (ix4 b c h w)) (fun n c => e (ix2 n c)) c - z (ix4 b c h w))

/-- The reference's second result, from that sum. -/
theorem lossOut_at (z : FVec Ideal S8x256x32x32 .f32) (e : FVec Ideal S1024x256 .f32) (j : S_.Idx) :
    lossOut z e j
      = Ideal.ofBits .f32 0x3E800000#32 * Ideal.div (sqSum z e) (Ideal.ofBits .f32 0x4A000000#32)
        + Ideal.div (sqSum z e) (Ideal.ofBits .f32 0x4A000000#32) := by
  unfold lossOut
  have hsum : Ideal.hostReduceAdd reducesTo_S8x32x32x256_S_d0_1_2_3
      (mulf (subf (quantized (channelsLast z) e) (channelsLast z)) (subf (quantized (channelsLast z) e) (channelsLast z))) 0 j
        = sqSum z e := by
    rw [Ideal.hostReduceAdd_total _ (fun b => b.elim0), zero_add, sum_idx4]
    unfold sqSum
    refine Finset.sum_congr rfl fun b _ => Finset.sum_congr rfl fun h _ => Finset.sum_congr rfl fun w _ =>
      Finset.sum_congr rfl fun c _ => ?_
    rw [← quantized_at z e b h w c, ← channelsLast_at z b h w c]
    rfl
  pointwise [loss, meanSq]
  rw [hsum]

end Cert.Proof.Ref

end
-- ==== Proof.Finite.lean ====
/- The precondition read back: every entry of the input is neither infinity. -/
module

public import proofs.«01_k».proof.Pre_finite_z
public import proofs.«01_k».proof.Proof.Nearest
public import Idealize.ShloMosaic.Lib.ReduceAll

@[expose] public section

noncomputable section

namespace Cert.Proof

open Idealize.ShloMosaic

/-- The shape facts the precondition names. -/
theorem finite_facts : Cert.Pre_finite_z.Facts := ⟨by decide, by decide, by decide⟩

/-- An extended real whose absolute value is below `⊤` is neither infinity. -/
theorem finite_of_abs_lt (v : EReal) (h : max v (-v) < ⊤) : v ≠ ⊥ ∧ v ≠ ⊤ := by
  constructor
  · rintro rfl
    simp at h
  · rintro rfl
    simp at h

/-- The precondition, entry by entry. -/
theorem finite_entry [Cert.Pre_finite_z.Facts] (z : FVec Ideal Cert.Pre_finite_z.S8x256x32x32 .f32)
    (e : FVec Ideal Cert.Pre_finite_z.S1024x256 .f32) (h : Cert.Pre_finite_z.fn (F := Ideal) z e = fun _ => 1#1)
    (i : Cert.Pre_finite_z.S8x256x32x32.Idx) : z i ≠ (⊥ : EReal) ∧ z i ≠ (⊤ : EReal) := by
  have : Subsingleton Cert.Pre_finite_z.S_.Idx := ⟨fun a b => funext fun k => k.elim0⟩
  have h1 := Host.reduce_andi_all _ _ _ _ ix0 (congrFun h ix0) i
  have h2 : BitVec.ofBool (decide (max (z i : EReal) (-(z i : EReal)) < Ideal.ofBits .f32 2139095040#32)) = 1#1 := h1
  rw [ofBits_inf] at h2
  refine finite_of_abs_lt _ ?_
  by_contra hn
  rw [decide_eq_false hn] at h2
  exact absurd h2 (by decide)

/-- Adding the difference to a number that is neither infinity gives back the other, whatever it is. -/
theorem add_sub_self (v q : EReal) (h : v ≠ ⊥ ∧ v ≠ ⊤) : v + (q - v) = q := by
  lift v to ℝ using ⟨h.2, h.1⟩
  induction q using EReal.rec with
  | bot => simp
  | top => simp
  | coe q =>
    rw [← EReal.coe_sub, ← EReal.coe_add]
    simp

end Cert.Proof

end
-- ==== Proof.Equation.lean ====
/- The equation: the kernel's two results are the reference's. The first needs the input's entries to be neither infinity,
   for the reference adds the difference of the code vector and the input back to the input. -/
module

public import proofs.«01_k».proof.Proof.KernRun
public import proofs.«01_k».proof.Proof.RefValue
public import proofs.«01_k».proof.Proof.Finite

@[expose] public section

set_option maxRecDepth 16384

noncomputable section

namespace Cert.Proof

open Cert.KernelIdeal Cert.KernelIdeal.Gen Idealize.ShloMosaic

/-- The pixel number within a block. -/
def pixel (h w : Fin 32) : Fin 1024 := ⟨h.val * 32 + w.val, by have := h.isLt; have := w.isLt; omega⟩

/-- The blocks hold the input's entries. -/
theorem blocks_at (z : FVec Ideal S8x256x32x32 .f32) (b : Fin 8) (c : Fin 256) (h w : Fin 32) :
    Kern.blocks z (ix3 b c (pixel h w)) = z (ix4 b c h w) := by
  pointwise [Kern.blocks, pixel]

/-- The kernel's first result: at every pixel the nearest code vector. -/
theorem kern_out_at (z : FVec Ideal S8x256x32x32 .f32) (e : FVec Ideal S1024x256 .f32) (b : Fin 8) (c : Fin 256)
    (h w : Fin 32) :
    Kern.out z e (ix4 b c h w) = near (fun c => z (ix4 b c h w)) (fun n c => e (ix2 n c)) c := by
  have hread : Kern.out z e (ix4 b c h w) = Arr.quant (Kern.blocks z) e (ix3 b c (pixel h w)) := by
    pointwise [Kern.out, pixel]
  rw [hread, Arr.quant_at]
  simp only [blocks_at]

/-- The first results are equal. -/
theorem out_eq (z : FVec Ideal S8x256x32x32 .f32) (e : FVec Ideal S1024x256 .f32)
    (hz : ∀ i, z i ≠ (⊥ : EReal) ∧ z i ≠ (⊤ : EReal)) : Ref.out z e = Kern.out z e := by
  funext j
  have hj : j = ix4 (j 0) (j 1) (j 2) (j 3) := eq_ix4 j
  rw [hj]
  refine (Ref.out_at z e (j 0) (j 1) (j 2) (j 3)).trans ?_
  refine Eq.trans ?_ (kern_out_at z e (j 0) (j 1) (j 2) (j 3)).symm
  exact add_sub_self _ _ (hz _)

/-- The sum of the partial losses is the sum over the pixels. -/
theorem sum_blockLoss (z : FVec Ideal S8x256x32x32 .f32) (e : FVec Ideal S1024x256 .f32) :
    ∑ b, Arr.blockLoss (Kern.blocks z) e b = Ref.sqSum z e := by
  unfold Ref.sqSum
  refine Finset.sum_congr rfl fun b _ => ?_
  have hc : ∀ c : Fin 256,
      (∑ t : Fin 1024, (Arr.quant (Kern.blocks z) e (ix3 b c t) - Kern.blocks z (ix3 b c t))
          * (Arr.quant (Kern.blocks z) e (ix3 b c t) - Kern.blocks z (ix3 b c t)))
        = ∑ h : Fin 32, ∑ w : Fin 32, (near (fun c => z (ix4 b c h w)) (fun n c => e (ix2 n c)) c - z (ix4 b c h w))
            * (near (fun c => z (ix4 b c h w)) (fun n c => e (ix2 n c)) c - z (ix4 b c h w)) := fun c => by
    refine (Fin.sum_mul_add_congr fun h w hl => ?_).symm
    have hp : (⟨h.val * 32 + w.val, hl⟩ : Fin 1024) = pixel h w := rfl
    rw [hp, Arr.quant_at, blocks_at]
    simp only [blocks_at]
  unfold Arr.blockLoss
  rw [Finset.sum_congr rfl fun c _ => hc c, Finset.sum_comm]
  refine Finset.sum_congr rfl fun h _ => ?_
  rw [Finset.sum_comm]

/-- The kernel's second result, from that sum. -/
theorem kern_loss_at (z : FVec Ideal S8x256x32x32 .f32) (e : FVec Ideal S1024x256 .f32) (j : S_.Idx) :
    Kern.lossOut z e j
      = Ideal.ofBits .f32 0x3E800000#32 * Ideal.div (Ref.sqSum z e) (Ideal.ofBits .f32 0x4A000000#32)
        + Ideal.div (Ref.sqSum z e) (Ideal.ofBits .f32 0x4A000000#32) := by
  have hsum : ∀ b : Fin 8, Arr.losses (Kern.blocks z) e (ix3 b (0 : Fin 1) (0 : Fin 128)) = Arr.blockLoss (Kern.blocks z) e b :=
    fun b => rfl
  rw [← sum_blockLoss]
  simp only [← hsum]
  pointwise [Kern.lossOut, Kern.total, Kern.mean]

/-- The second results are equal. -/
theorem loss_eq (z : FVec Ideal S8x256x32x32 .f32) (e : FVec Ideal S1024x256 .f32) : Ref.lossOut z e = Kern.lossOut z e :=
  funext fun j => (Ref.lossOut_at z e j).trans (kern_loss_at z e j).symm

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.RefRun
public import proofs.«01_k».proof.Proof.KernRun
public import proofs.«01_k».proof.Proof.Equation

@[expose] public section

noncomputable section

namespace Cert.Proof

open Idealize.ShloMosaic Idealize.SL.Sem

attribute [local instance] Cert.Kernel.Gen.facts Cert.KernelIdeal.Gen.facts Cert.ReferenceIdeal.Gen.facts finite_facts

/-- The reference runs, keeps its arguments and ends quiet. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  θ_run_mono (Ref.run m g) fun _ h => ⟨fun c => (h.1 c).2.2, h.2⟩

/-- The ideal kernel and the reference end with the same two results. -/
theorem same_results : Cert.algebraic_KernelIdeal_ReferenceIdeal_pre_finite_z := by
  intro m g m' g' hpre hargs
  refine ⟨fun c => Kern.out _ _, fun c => Kern.lossOut _ _, Kern.run m g, θ_run_mono (Ref.run m' g') fun _ h c => ?_⟩
  obtain ⟨hout, hloss, hkeep⟩ := h.1 c
  have hz := finite_entry _ _ (hpre c)
  rw [(hargs c).1, (hargs c).2] at hout hloss
  exact ⟨hout.trans (out_eq _ _ hz), hloss.trans (loss_eq _ _), hkeep⟩

/-- Every claim of the certificate. -/
theorem claim : Cert.Claim :=
  ⟨Cert.Kernel.Gen.facts, Cert.KernelIdeal.Gen.facts, Cert.ReferenceIdeal.Gen.facts, finite_facts,
    fun m g _ => Cert.Kernel.Gen.frame m g, fun m g _ => Cert.KernelIdeal.Gen.frame m g,
    fun m g _ => Cert.KernelIdeal.Gen.frame m g, fun m g _ => reference_frame m g, fun m g _ => reference_frame m g,
    trivial, same_results⟩

end Cert.Proof

end
